-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_indices) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S4x8192x1024 : Shape := ⟨3, ![4, 8192, 1024]⟩
abbrev S64x1024 : Shape := ⟨2, ![64, 1024]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S64x1024 : S_.BroadcastsInDim S64x1024 (![] : Fin 0 → Fin S64x1024.rank)
  reducesTo_S64x1024_S_d0_1 : S64x1024.ReducesTo [0, 1] S_

variable [Facts]

def fn {F : FTy → Type} [FloatOps F] (main_arg0 : FVec F S4x8192x1024 .f32) (main_arg1 : FVec F S64x1024 .f32) : IVec S_ 1 × IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  (main_v3, main_v7)
-- ==== Kernel.lean ====
abbrev S4x8192x1024 : Shape := ⟨3, ![4, 8192, 1024]⟩
abbrev S64x1024 : Shape := ⟨2, ![64, 1024]⟩
abbrev S32768x1024 : Shape := ⟨2, ![32768, 1024]⟩
abbrev S8x32768 : Shape := ⟨2, ![8, 32768]⟩
abbrev S4096x1024 : Shape := ⟨2, ![4096, 1024]⟩
abbrev S8x4096 : Shape := ⟨2, ![8, 4096]⟩
abbrev S64x4096 : Shape := ⟨2, ![64, 4096]⟩
abbrev S4096 : Shape := ⟨1, ![4096]⟩
abbrev S1x4096 : Shape := ⟨2, ![1, 4096]⟩
abbrev S32768x8 : Shape := ⟨2, ![32768, 8]⟩

abbrev nBuf : Space → Nat
  | .hbm => 7
  | .vmem => 7
  | .smem => 0
  | _ => 0

abbrev bufTy : (tb : Table) → Fin (tcTables nBuf tb) → BufTy
  | .hbm, ⟨0, _⟩ => ⟨S4x8192x1024, .f32⟩
  | .hbm, ⟨1, _⟩ => ⟨S64x1024, .f32⟩
  | .hbm, ⟨2, _⟩ => ⟨S32768x1024, .f32⟩
  | .hbm, ⟨3, _⟩ => ⟨S8x32768, .i32⟩
  | .hbm, ⟨4, _⟩ => ⟨S8x32768, .f32⟩
  | .hbm, ⟨5, _⟩ => ⟨S32768x8, .i32⟩
  | .hbm, ⟨6, _⟩ => ⟨S32768x8, .f32⟩
  | .local _ .vmem, ⟨0, _⟩ => ⟨S4096x1024, .f32⟩
  | .local _ .vmem, ⟨1, _⟩ => ⟨S4096x1024, .f32⟩
  | .local _ .vmem, ⟨2, _⟩ => ⟨S64x1024, .f32⟩
  | .local _ .vmem, ⟨3, _⟩ => ⟨S8x4096, .i32⟩
  | .local _ .vmem, ⟨4, _⟩ => ⟨S8x4096, .i32⟩
  | .local _ .vmem, ⟨5, _⟩ => ⟨S8x4096, .f32⟩
  | .local _ .vmem, ⟨6, _⟩ => ⟨S8x4096, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x4096 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S4x8192x1024 : Shape := ⟨3, ![4, 8192, 1024]⟩
abbrev S64x1024 : Shape := ⟨2, ![64, 1024]⟩
abbrev S32768x1024 : Shape := ⟨2, ![32768, 1024]⟩
abbrev S1024x64 : Shape := ⟨2, ![1024, 64]⟩
abbrev S32768x64 : Shape := ⟨2, ![32768, 64]⟩
abbrev S_ : Shape := ⟨0, ![]⟩
abbrev S32768 : Shape := ⟨1, ![32768]⟩
abbrev S32768x1 : Shape := ⟨2, ![32768, 1]⟩
abbrev S32768x8 : Shape := ⟨2, ![32768, 8]⟩

abbrev nBuf : Space → Nat
  | .hbm => 29
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S64x1024, .f32⟩
  | .hbm, ⟨2, _⟩ => ⟨S32768x1024, .f32⟩
  | .hbm, ⟨3, _⟩ => ⟨S1024x64, .f32⟩
  | .hbm, ⟨4, _⟩ => ⟨S32768x64, .f32⟩
  | .hbm, ⟨5, _⟩ => ⟨S_, .f32⟩
  | .hbm, ⟨6, _⟩ => ⟨S32768, .f32⟩
  | .hbm, ⟨7, _⟩ => ⟨S_, .f32⟩
  | .hbm, ⟨8, _⟩ => ⟨S32768, .f32⟩
  | .hbm, ⟨9, _⟩ => ⟨S32768, .f32⟩
  | .hbm, ⟨10, _⟩ => ⟨S32768x1, .f32⟩
  | .hbm, ⟨11, _⟩ => ⟨S32768x64, .f32⟩
  | .hbm, ⟨12, _⟩ => ⟨S32768x64, .f32⟩
  | .hbm, ⟨13, _⟩ => ⟨S32768x64, .f32⟩
  | .hbm, ⟨14, _⟩ => ⟨S_, .f32⟩
  | .hbm, ⟨15, _⟩ => ⟨S32768, .f32⟩
  | .hbm, ⟨16, _⟩ => ⟨S32768x1, .f32⟩
  | .hbm, ⟨17, _⟩ => ⟨S32768x64, .f32⟩
  | .hbm, ⟨18, _⟩ => ⟨S32768x64, .f32⟩
  | .hbm, ⟨19, _⟩ => ⟨S32768x8, .f32⟩
  | .hbm, ⟨20, _⟩ => ⟨S32768x8, .i32⟩
  | .hbm, ⟨21, _⟩ => ⟨S_, .f32⟩
  | .hbm, ⟨22, _⟩ => ⟨S32768, .f32⟩
  | .hbm, ⟨23, _⟩ => ⟨S32768x1, .f32⟩
  | .hbm, ⟨24, _⟩ => ⟨S_, .f32⟩
  | .hbm, ⟨25, _⟩ => ⟨S32768x1, .f32⟩
  | .hbm, ⟨26, _⟩ => ⟨S32768x1, .f32⟩
  | .hbm, ⟨27, _⟩ => ⟨S32768x8, .f32⟩
  | .hbm, ⟨28, _⟩ => ⟨S32768x8, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_values : Ref sig .tc := ⟨.hbm, 19, rfl⟩
abbrev main_indices : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Proof.Rounds.lean ====
/-
  Taking the largest entry of a column again and again, and the order a stable sort gives.

  A column `s : Fin n → EReal` is read in rounds.  Each round finds the largest entry, takes the lowest position that
  holds it, and strikes that position out by writing `⊥` there.  If no entry of the column is `⊥`, a struck position is
  never taken again, so the positions taken by the first rounds are those a stable sort from large to small puts first.
-/
module

public import Idealize.ShloMosaic.Lib.SortPrefix
public import Idealize.ShloMosaic.PureOps.Ideal

@[expose] public section

noncomputable section

namespace Cert.Rounds

open Idealize.ShloMosaic

variable {n : ℕ} [NeZero n]

/-- Some position of a column holds its largest entry. -/
theorem peaks_nonempty (c : Fin n → EReal) : (Finset.univ.filter fun i => ∀ j, c j ≤ c i).Nonempty := by
  haveI : Nonempty (Fin n) := ⟨0⟩
  obtain ⟨i, hi⟩ := Finite.exists_max c
  exact ⟨i, by simpa using hi⟩

/-- The lowest position that holds a column's largest entry. -/
def first (c : Fin n → EReal) : Fin n := (Finset.univ.filter fun i => ∀ j, c j ≤ c i).min' (peaks_nonempty c)

/-- No entry of a column exceeds the one at `first`. -/
theorem le_first (c : Fin n → EReal) (j : Fin n) : c j ≤ c (first c) := by
  have h := Finset.min'_mem _ (peaks_nonempty c)
  rw [Finset.mem_filter] at h
  exact h.2 j

/-- Every position that holds the largest entry is at or after `first`. -/
theorem first_le (c : Fin n → EReal) (i : Fin n) (h : ∀ j, c j ≤ c i) : first c ≤ i :=
  Finset.min'_le _ _ (by simpa using h)

/-- Every position whose entry equals the one at `first` is at or after it. -/
theorem first_le_of_eq (c : Fin n → EReal) (i : Fin n) (h : c i = c (first c)) : first c ≤ i :=
  first_le c i fun j => h ▸ le_first c j

/-- A column after one round: `⊥` at the position taken, unchanged elsewhere. -/
def strike (c : Fin n → EReal) : Fin n → EReal := fun j => if j = first c then ⊥ else c j

/-- A column after `r` rounds. -/
def state (s : Fin n → EReal) : ℕ → Fin n → EReal
  | 0 => s
  | r + 1 => strike (state s r)

/-- The position round `r` takes, the first round counted as `0`. -/
def taken (s : Fin n → EReal) (r : ℕ) : Fin n := first (state s r)

/-- After `r` rounds a position holds `⊥` if one of these rounds took it, and its own entry if none did. -/
theorem state_eq (s : Fin n → EReal) (r : ℕ) (j : Fin n) :
    ((∃ q < r, taken s q = j) ∧ state s r j = ⊥) ∨ ((∀ q < r, taken s q ≠ j) ∧ state s r j = s j) := by
  induction r with
  | zero => exact Or.inr ⟨fun q hq => absurd hq (Nat.not_lt_zero q), rfl⟩
  | succ r ih =>
    by_cases hj : j = taken s r
    · exact Or.inl ⟨⟨r, Nat.lt_succ_self r, hj.symm⟩, if_pos hj⟩
    · have e : state s (r + 1) j = state s r j := if_neg hj
      rcases ih with ⟨⟨q, hq, hqj⟩, hb⟩ | ⟨hn, hs⟩
      · exact Or.inl ⟨⟨q, Nat.lt_succ_of_lt hq, hqj⟩, e.trans hb⟩
      · refine Or.inr ⟨fun q hq => ?_, e.trans hs⟩
        rcases Nat.lt_succ_iff_lt_or_eq.mp hq with h | rfl
        · exact hn q h
        · exact fun h => hj h.symm

/-- Before all positions are taken, some position has not been. -/
theorem exists_untaken (s : Fin n → EReal) (r : ℕ) (hr : r < n) : ∃ j, ∀ q < r, taken s q ≠ j := by
  classical
  by_contra hcon
  push Not at hcon
  have hsub : (Finset.univ : Finset (Fin n)) ⊆ (Finset.range r).image (taken s) := fun j _ => by
    obtain ⟨q, hq, hj⟩ := hcon j
    exact Finset.mem_image.mpr ⟨q, Finset.mem_range.mpr hq, hj⟩
  have h1 := Finset.card_le_card hsub
  have h2 := Finset.card_image_le (s := Finset.range r) (f := taken s)
  rw [Finset.card_univ, Fintype.card_fin] at h1
  rw [Finset.card_range] at h2
  omega

section Proper
variable (s : Fin n → EReal) (hs : ∀ j, s j ≠ ⊥)
include hs

/-- No round takes a position an earlier round took, when no entry is `⊥`. -/
theorem taken_fresh (r : ℕ) (hr : r < n) : ∀ q < r, taken s q ≠ taken s r := by
  obtain ⟨j, hj⟩ := exists_untaken s r hr
  have hsj : state s r j = s j := by
    rcases state_eq s r j with ⟨⟨q, hq, e⟩, _⟩ | ⟨_, e⟩
    · exact absurd e (hj q hq)
    · exact e
  rcases state_eq s r (taken s r) with ⟨_, e⟩ | ⟨h, _⟩
  · have hle : state s r j ≤ state s r (taken s r) := le_first (state s r) j
    rw [e, hsj, le_bot_iff] at hle
    exact absurd hle (hs j)
  · exact h

/-- The largest entry round `r` finds is the column's own entry at the position it takes. -/
theorem state_taken (r : ℕ) (hr : r < n) : state s r (taken s r) = s (taken s r) := by
  rcases state_eq s r (taken s r) with ⟨⟨q, hq, e⟩, _⟩ | ⟨_, e⟩
  · exact absurd e (taken_fresh s hs r hr q hq)
  · exact e

/-- A position not yet taken at round `r` holds no larger entry than the one taken, and where the entries are equal
    it is not before it. -/
theorem taken_best (r : ℕ) (hr : r < n) (p : Fin n) (hp : ∀ q < r, taken s q ≠ p) :
    s p ≤ s (taken s r) ∧ (s p = s (taken s r) → taken s r ≤ p) := by
  have e : state s r p = s p := by
    rcases state_eq s r p with ⟨⟨q, hq, e⟩, _⟩ | ⟨_, e⟩
    · exact absurd e (hp q hq)
    · exact e
  have ht := state_taken s hs r hr
  refine ⟨?_, fun h => ?_⟩
  · rw [← e, ← ht]; exact le_first (state s r) p
  · refine first_le_of_eq (state s r) p ?_
    show state s r p = state s r (taken s r)
    rw [e, ht, h]

end Proper

/-- "The entry at `k` is larger than the one at `k'`, or equal with `k` the lower position." -/
def before (s : Fin n → EReal) (k k' : Fin n) : Bool :=
  decide (s k' < s k) || (decide (s k = s k') && decide (k < k'))

/-- That relation orders the positions strictly and totally. -/
theorem before_strictTotal (s : Fin n → EReal) : StrictTotalBefore (before s) :=
  StrictTotalBefore.of_key_then_position (fun a b : EReal => decide (b < a)) s (fun a => by simp)
    (fun a b c h h' => by simp only [decide_eq_true_eq] at *; exact lt_trans h' h)
    (fun a b => by
      simp only [decide_eq_true_eq]
      rcases lt_trichotomy a b with h | h | h
      · exact Or.inr (Or.inr h)
      · exact Or.inr (Or.inl h)
      · exact Or.inl h)

/-- Two relations that agree on every later element against every earlier one sort a list alike. -/
theorem stableSort_eq_of_pairwise {ι : Type} (R R' : ι → ι → Bool) (l : List ι)
    (h : l.Pairwise fun a b => R b a = R' b a) : stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- A stable sort by "larger" alone is the sort by `before`: stability puts the lower of two equal positions first. -/
theorem sortedFrom_larger (s : Fin n → EReal) (R : Fin n → Fin n → Bool) (hR : ∀ k k', R k k' = decide (s k' < s k)) :
    sortedFrom R = sortedFrom (before s) := by
  have e : sortPositions n R = sortPositions n (before s) := by
    refine stableSort_eq_of_pairwise _ _ _ ((List.pairwise_lt_finRange n).imp fun {a b} hab => ?_)
    have hn : ¬ b < a := not_lt_of_gt hab
    rw [hR, before]
    simp [hn]
  funext k
  unfold sortedFrom
  rw [List.get_of_eq e]
  rfl

/-- **The positions taken by the first `k` rounds are the first `k` of the stable sort from large to small**, for a
    column with no entry `⊥`. -/
theorem sortedFrom_eq_taken (s : Fin n → EReal) (hs : ∀ j, s j ≠ ⊥) (k : ℕ) (hk : k ≤ n) (r : Fin k)
    (R : Fin n → Fin n → Bool) (hR : ∀ k k', R k k' = decide (s k' < s k)) :
    sortedFrom R (r.castLE hk) = taken s r.val := by
  have hlt : ∀ i : Fin k, i.val < n := fun i => lt_of_lt_of_le i.isLt hk
  have hneg : ∀ (i : Fin k) (p : Fin n), (∀ q < i.val, taken s q ≠ p) → before s p (taken s i.val) = false := by
    intro i p hp
    obtain ⟨hle, heq⟩ := taken_best s hs i.val (hlt i) p hp
    unfold before
    rw [Bool.or_eq_false_iff, Bool.and_eq_false_iff]
    refine ⟨decide_eq_false (not_lt_of_ge hle), ?_⟩
    by_cases h : s p = s (taken s i.val)
    · exact Or.inr (decide_eq_false (not_lt_of_ge (heq h)))
    · exact Or.inl (decide_eq_false h)
  rw [sortedFrom_larger s R hR]
  refine (before_strictTotal s).sortedFrom_eq_of_prefix hk (fun i : Fin k => taken s i.val) ?_ ?_ ?_ r
  · intro i j hij
    rcases lt_trichotomy i.val j.val with h | h | h
    · exact absurd hij (taken_fresh s hs j.val (hlt j) i.val h)
    · exact Fin.ext h
    · exact absurd hij.symm (taken_fresh s hs i.val (hlt i) j.val h)
  · intro i j hij
    refine hneg i (taken s j.val) fun q hq => taken_fresh s hs j.val (hlt j) q (lt_trans hq hij)
  · intro i p hp
    exact hneg i p fun q hq => hp ⟨q, lt_trans hq i.isLt⟩

end Cert.Rounds

end
-- ==== Proof.Block.lean ====
/-
  What the kernel body leaves in its two output blocks, column by column.

  The body works on a block of scores with one column per token and one row per expert.  A round of the body takes the
  largest entry of every column, the lowest row that holds it, and writes `⊥` into that row.  The lemmas here say that a
  round acts on each column as `Cert.Rounds` describes, once for every round, and then read the two stored blocks.
-/
module

public import proofs.«01_k».proof.Proof.Gen.KernelIdeal.Frame
public import proofs.«01_k».proof.Proof.Rounds
public import Idealize.ShloMosaic.PureOps.Ideal.Laws
public import Idealize.ShloMosaic.Lib.Pipeline.Value
public import Idealize.ShloMosaic.Lib.ValueLayout
public import Idealize.ShloMosaic.Lib.ValueIdx
public import Idealize.ShloMosaic.Lib.WordCmp
public import Idealize.ShloMosaic.Lib.SortNet.Extract
public import Idealize.ShloMosaic.Lib.Pointwise

@[expose] public section

noncomputable section

namespace Cert.Block

open Idealize.ShloMosaic hiding ix1 ix2
open Idealize.ShloMosaic.ValueIdx Cert.KernelIdeal Cert.KernelIdeal.Gen
open Cert.KernelIdeal.Facts
open scoped BigOperators

/-- Column `j` of a block, as a function of the row. -/
def col (V : FVec Ideal S64x4096 .f32) (j : Fin 4096) : Fin 64 → EReal := fun i => V (ix2 i j)

/-- The row of column maxima of a block. -/
def topRow (V : FVec Ideal S64x4096 .f32) : FVec Ideal S1x4096 .f32 :=
  shapeCast S1x4096 (multiReduction .maximumf [0] S4096 V 0xFF800000#32 reduces_S64x4096_S4096 (.inl rfl) rfl)
    shapeCasts_S4096_S1x4096

/-- Every element's row number, as a word. -/
def rowNo : IVec S64x4096 32 := iota .tc S64x4096 32 [0] iota_S64x4096_d0_w32

/-- For every column, the number of the lowest row that holds the column's maximum, as the body computes it. -/
def pickRow (V : FVec Ideal S64x4096 .f32) : IVec S1x4096 32 :=
  shapeCast S1x4096
    (multiReductionI .minsi [0] S4096
      (select (cmpf .oeq V (broadcastTo S64x4096 (topRow V) broadcasts_S1x4096_S64x4096)) rowNo (broadcast S64x4096 64#32))
      2147483647#32 reduces_S64x4096_S4096 rfl)
    shapeCasts_S4096_S1x4096

/-- The block after a round: minus infinity at the row picked in each column. -/
def nextBlock (V : FVec Ideal S64x4096 .f32) : FVec Ideal S64x4096 .f32 :=
  select (cmpi .eq rowNo (broadcastTo S64x4096 (pickRow V) broadcasts_S1x4096_S64x4096))
    (broadcast S64x4096 (Scalar.ofBits .f32 0xFF800000#32)) V

/-- The block after `r` rounds. -/
def roundsOf (V : FVec Ideal S64x4096 .f32) : ℕ → FVec Ideal S64x4096 .f32
  | 0 => V
  | r + 1 => nextBlock (roundsOf V r)

/-- Inserting row `k` over a column's index `j` gives the element at row `k`, column `j`. -/
theorem lift_col {n : ℕ} (h : (⟨2, ![n, 4096]⟩ : Shape).Reduces [0] S4096) (j : Fin 4096) (k : Fin n) :
    h.lift (ix1 j) k = (ix2 k j : (⟨2, ![n, 4096]⟩ : Shape).Idx) :=
  Shape.idx_ext₂ rfl rfl

/-- The word `0xFF800000` denotes `⊥`. -/
theorem negInf : FloatOps.ofBits (F := Ideal) .f32 0xFF800000#32 = (⊥ : EReal) := by
  show Ideal.ofBits .f32 0xFF800000#32 = ⊥
  simp [Ideal.ofBits, Ideal.ieee]

/-- Folding `max` from `⊥` over a column gives the entry at its first largest position. -/
theorem fold_max (c : Fin 64 → EReal) : (Finset.univ : Finset (Fin 64)).fold max ⊥ c = c (Rounds.first c) := by
  refine le_antisymm ?_ ?_
  · exact (Finset.fold_max_le _).mpr ⟨bot_le, fun j _ => Rounds.le_first c j⟩
  · exact (Finset.le_fold_max _).mpr (Or.inr ⟨Rounds.first c, Finset.mem_univ _, le_refl _⟩)

/-- A column's maximum over the 64 rows, read at that column. -/
theorem maxRow_apply (V : FVec Ideal S64x4096 .f32) (j : Fin 4096) :
    multiReduction .maximumf [0] S4096 V 0xFF800000#32 reduces_S64x4096_S4096 (.inl rfl) rfl (ix1 j)
      = col V j (Rounds.first (col V j)) := by
  refine (Ideal.multiReduction_maximumf_single V _ _ _ _ (ix1 j)).trans ?_
  rw [negInf, ← fold_max (col V j)]
  refine congrArg (Finset.fold max ⊥ · Finset.univ) (funext fun k => ?_)
  exact congrArg V (lift_col _ j k)

/-- The row of maxima holds each column's largest entry. -/
theorem topRow_apply (V : FVec Ideal S64x4096 .f32) (u : Fin 1) (j : Fin 4096) :
    topRow V (ix2 u j) = col V j (Rounds.first (col V j)) := by
  unfold topRow
  exact (shapeCast_a_1a_apply _ _ u j).trans (maxRow_apply V j)

/-- A row number as a word, read as a signed integer. -/
theorem toInt_row : ∀ k : Fin 64, (BitVec.ofNat 32 k.val).toInt = (k.val : ℤ) := by decide

/-- The least of "row number where the entry is the maximum, 64 elsewhere" is the first such row. -/
theorem fold_pick (c : Fin 64 → EReal) :
    (Finset.univ : Finset (Fin 64)).fold IntOp.minsi 2147483647#32
        (fun k => if c k = c (Rounds.first c) then BitVec.ofNat 32 k.val else 64#32)
      = BitVec.ofNat 32 (Rounds.first c).val := by
  refine BitVec.eq_of_toInt_eq ?_
  rw [← Finset.fold_hom (op' := min) (m := BitVec.toInt) fun a b => SortNet.toInt_minsi a b, toInt_row]
  refine le_antisymm ?_ ?_
  · refine (Finset.fold_min_le _).mpr (Or.inr ⟨Rounds.first c, Finset.mem_univ _, ?_⟩)
    rw [if_pos rfl, toInt_row]
  · refine (Finset.le_fold_min _).mpr ⟨?_, fun k _ => ?_⟩
    · have := (Rounds.first c).isLt
      rw [show (2147483647#32 : BitVec 32).toInt = 2147483647 from by decide]
      omega
    · split
      · rename_i h
        rw [toInt_row]
        exact_mod_cast Rounds.first_le_of_eq c k h
      · have := (Rounds.first c).isLt
        rw [show (64#32 : BitVec 32).toInt = 64 from by decide]
        omega

/-- The picked row number in each column is the first position of the column's largest entry. -/
theorem pickRow_apply (V : FVec Ideal S64x4096 .f32) (u : Fin 1) (j : Fin 4096) :
    pickRow V (ix2 u j) = BitVec.ofNat 32 (Rounds.first (col V j)).val := by
  unfold pickRow
  refine (shapeCast_a_1a_apply _ _ u j).trans ?_
  refine (multiReductionI_eq_fold .minsi _ _ _ _ (ix1 j)).trans ?_
  rw [Shape.Reduces.fold_filter_drop_single, ← fold_pick]
  refine congrArg (Finset.fold IntOp.minsi 2147483647#32 · Finset.univ) (funext fun k : Fin 64 => ?_)
  refine (congrArg (select _ rowNo _) (lift_col reduces_S64x4096_S4096 j k)).trans ?_
  show Scalar.select (FloatOps.cmpf .oeq (V (ix2 k j)) (broadcastTo S64x4096 (topRow V) broadcasts_S1x4096_S64x4096 (ix2 k j)))
    (rowNo (ix2 k j)) 64#32 = _
  rw [broadcastTo_1b_ab_apply, topRow_apply, rowNo, iota_single_apply]
  show Scalar.select (BitVec.ofBool (decide (V (ix2 k j) = col V j (Rounds.first (col V j))))) (BitVec.ofNat 32 k.val) 64#32 = _
  rw [WordCmp.select_decide]
  rfl

/-- A round strikes each column at its first largest position. -/
theorem col_nextBlock (V : FVec Ideal S64x4096 .f32) (j : Fin 4096) : col (nextBlock V) j = Rounds.strike (col V j) := by
  funext k
  unfold col nextBlock
  rw [select_apply, cmpi_apply, broadcast_apply, broadcastTo_1b_ab_apply, pickRow_apply, rowNo, iota_single_apply,
    show Scalar.ofBits (F := Ideal) .f32 0xFF800000#32 = (⊥ : EReal) from negInf]
  show Scalar.select (BitVec.ofBool (BitVec.ofNat 32 k.val == BitVec.ofNat 32 (Rounds.first (col V j)).val)) ⊥ (V (ix2 k j)) = _
  rw [WordCmp.select_ofBool]
  show _ = if k = Rounds.first (col V j) then ⊥ else V (ix2 k j)
  have hk := k.isLt
  have hf := (Rounds.first (col V j)).isLt
  by_cases h : k = Rounds.first (col V j)
  · rw [if_pos h, if_pos (by rw [h]; exact beq_self_eq_true _)]
  · rw [if_neg h, if_neg]
    intro e
    refine h (Fin.ext ?_)
    have e' := congrArg BitVec.toNat (beq_iff_eq.mp e)
    rw [BitVec.toNat_ofNat, BitVec.toNat_ofNat] at e'
    omega

/-- After `r` rounds each column is in the state `Cert.Rounds` gives it. -/
theorem col_roundsOf (V : FVec Ideal S64x4096 .f32) (j : Fin 4096) (r : ℕ) :
    col (roundsOf V r) j = Rounds.state (col V j) r := by
  induction r with
  | zero => rfl
  | succ r ih =>
    show col (nextBlock (roundsOf V r)) j = Rounds.strike (Rounds.state (col V j) r)
    rw [col_nextBlock, ih]

/-- The eight picked rows of numbers, one under another. -/
def pickStack (V : FVec Ideal S64x4096 .f32) : IVec S8x4096 32 :=
  concatenate S8x4096 0 [⟨S1x4096, pickRow (roundsOf V 0)⟩, ⟨S1x4096, pickRow (roundsOf V 1)⟩, ⟨S1x4096, pickRow (roundsOf V 2)⟩,
    ⟨S1x4096, pickRow (roundsOf V 3)⟩, ⟨S1x4096, pickRow (roundsOf V 4)⟩, ⟨S1x4096, pickRow (roundsOf V 5)⟩,
    ⟨S1x4096, pickRow (roundsOf V 6)⟩, ⟨S1x4096, pickRow (roundsOf V 7)⟩]
    concatenates_S1x4096_S1x4096_S1x4096_S1x4096_S1x4096_S1x4096_S1x4096_S1x4096_S8x4096_d0

/-- The eight rows of maxima, one under another. -/
def topStack (V : FVec Ideal S64x4096 .f32) : FVec Ideal S8x4096 .f32 :=
  concatenate S8x4096 0 [⟨S1x4096, topRow (roundsOf V 0)⟩, ⟨S1x4096, topRow (roundsOf V 1)⟩, ⟨S1x4096, topRow (roundsOf V 2)⟩,
    ⟨S1x4096, topRow (roundsOf V 3)⟩, ⟨S1x4096, topRow (roundsOf V 4)⟩, ⟨S1x4096, topRow (roundsOf V 5)⟩,
    ⟨S1x4096, topRow (roundsOf V 6)⟩, ⟨S1x4096, topRow (roundsOf V 7)⟩]
    concatenates_S1x4096_S1x4096_S1x4096_S1x4096_S1x4096_S1x4096_S1x4096_S1x4096_S8x4096_d0

/-- Eight one-row pieces stacked, read at row `r`: piece `r`. -/
theorem stack_apply {α : Type} (f : Fin 8 → (S1x4096.Idx → α))
    (h : Shape.Concatenates [S1x4096, S1x4096, S1x4096, S1x4096, S1x4096, S1x4096, S1x4096, S1x4096] S8x4096 0)
    (r : Fin 8) (j : Fin 4096) :
    concatenate S8x4096 0 [⟨S1x4096, f 0⟩, ⟨S1x4096, f 1⟩, ⟨S1x4096, f 2⟩, ⟨S1x4096, f 3⟩, ⟨S1x4096, f 4⟩, ⟨S1x4096, f 5⟩,
      ⟨S1x4096, f 6⟩, ⟨S1x4096, f 7⟩] h (ix2 r j) = f r (ix2 (0 : Fin 1) j) := by
  refine concatenate_ofFn_unit_apply (t := S8x4096) (s₁ := S1x4096) 0 f h rfl rfl (ix2 r j) r rfl (ix2 (0 : Fin 1) j) ?_
  intro b hb
  match b with
  | ⟨0, _⟩ => exact absurd rfl hb
  | ⟨1, _⟩ => rfl

/-- Row `r` of the picks holds, in column `j`, the number of the row that round `r` takes there. -/
theorem pickStack_apply (V : FVec Ideal S64x4096 .f32) (r : Fin 8) (j : Fin 4096) :
    pickStack V (ix2 r j) = BitVec.ofNat 32 (Rounds.taken (col V j) r.val).val := by
  refine (stack_apply (fun r : Fin 8 => pickRow (roundsOf V r.val)) _ r j).trans ?_
  rw [pickRow_apply, col_roundsOf]
  rfl

/-- Row `r` of the maxima holds, in column `j`, the entry that round `r` takes there. -/
theorem topStack_apply (V : FVec Ideal S64x4096 .f32) (r : Fin 8) (j : Fin 4096) :
    topStack V (ix2 r j) = Rounds.state (col V j) r.val (Rounds.taken (col V j) r.val) := by
  refine (stack_apply (fun r : Fin 8 => topRow (roundsOf V r.val)) _ r j).trans ?_
  rw [topRow_apply, col_roundsOf]
  rfl

/-- The maxima divided by their sum over the eight rows plus the small constant, as the body computes it. -/
def gateStack (V : FVec Ideal S64x4096 .f32) : FVec Ideal S8x4096 .f32 :=
  divf (topStack V)
    (broadcastTo S8x4096
      (addf (shapeCast S1x4096 (multiReduction .add [0] S4096 (topStack V) 0x00000000#32 reduces_S8x4096_S4096 (.inl rfl) rfl)
        shapeCasts_S4096_S1x4096) (broadcast S1x4096 (Scalar.ofBits .f32 0x358637BD#32)))
      broadcasts_S1x4096_S8x4096)

/-- The gate of rank `r`: the entry round `r` takes, over the sum of the eight taken entries plus the small constant. -/
def gate (s : Fin 64 → EReal) (r : Fin 8) : EReal :=
  Ideal.div (Rounds.state s r.val (Rounds.taken s r.val))
    ((∑ q : Fin 8, Rounds.state s q.val (Rounds.taken s q.val)) + Ideal.ofBits .f32 0x358637BD#32)

/-- Row `r` of the gates holds, in column `j`, that column's gate of rank `r`. -/
theorem gateStack_apply (V : FVec Ideal S64x4096 .f32) (r : Fin 8) (j : Fin 4096) :
    gateStack V (ix2 r j) = gate (col V j) r := by
  show Ideal.div (topStack V (ix2 r j)) (broadcastTo S8x4096 _ broadcasts_S1x4096_S8x4096 (ix2 r j)) = _
  rw [broadcastTo_1b_ab_apply, topStack_apply]
  show Ideal.div _ (shapeCast S1x4096 _ shapeCasts_S4096_S1x4096 (ix2 (0 : Fin 1) j) + Ideal.ofBits .f32 0x358637BD#32) = _
  rw [shapeCast_a_1a_apply]
  unfold gate
  refine congrArg (fun z => Ideal.div _ (z + _)) ?_
  refine (Ideal.multiReduction_add_single (topStack V) _ _ _ _ (ix1 j)).trans (Finset.sum_congr rfl fun q _ => ?_)
  exact (congrArg (topStack V) (lift_col _ j q)).trans (topStack_apply V q j)

/-- The block of scores the body computes from the expert weights and a block of tokens. -/
def scores (w : Vec Ideal S64x1024 .f32) (x : Vec Ideal S4096x1024 .f32) : FVec Ideal S64x4096 .f32 := k0_pay7 w x

/-- "The entry is its column's maximum", as the body compares it. -/
def peakMask (V : FVec Ideal S64x4096 .f32) : IVec S64x4096 1 :=
  cmpf .oeq V (broadcastTo S64x4096 (topRow V) broadcasts_S1x4096_S64x4096)

section Payloads
variable (w : Vec Ideal S64x1024 .f32) (x : Vec Ideal S4096x1024 .f32) (V : FVec Ideal S64x4096 .f32)

/-! The values the body binds, round by round: the first three rounds from the loaded blocks, -/

theorem pay8_eq : k0_pay8 w x = topRow (scores w x) := rfl
theorem pay9_eq : k0_pay9 w x = pickRow (scores w x) := by unfold k0_pay9; rw [pay8_eq]; rfl
theorem pay10_eq : k0_pay10 w x = nextBlock (scores w x) := by unfold k0_pay10; rw [pay9_eq]; rfl
theorem pay11_eq : k0_pay11 w x = topRow (nextBlock (scores w x)) := by unfold k0_pay11; rw [pay10_eq]; rfl
theorem pay12_eq : k0_pay12 w x = pickRow (nextBlock (scores w x)) := by unfold k0_pay12; rw [pay11_eq, pay10_eq]; rfl
theorem pay13_eq : k0_pay13 w x = nextBlock (nextBlock (scores w x)) := by unfold k0_pay13; rw [pay12_eq, pay10_eq]; rfl
theorem pay14_eq : k0_pay14 w x = topRow (nextBlock (nextBlock (scores w x))) := by unfold k0_pay14; rw [pay13_eq]; rfl
theorem pay15_eq : k0_pay15 w x = peakMask (nextBlock (nextBlock (scores w x))) := by
  unfold k0_pay15; rw [pay14_eq, pay13_eq]; rfl

/-! then the next five from any block `V` that the third round starts with. -/

theorem pay16_eq : k0_pay16 rowNo (peakMask V) 64#32 = pickRow V := rfl
theorem pay17_eq : k0_pay17 rowNo V (peakMask V) 64#32 = nextBlock V := by unfold k0_pay17; rw [pay16_eq]; rfl
theorem pay18_eq : k0_pay18 rowNo V (peakMask V) 64#32 = topRow (nextBlock V) := by unfold k0_pay18; rw [pay17_eq]; rfl
theorem pay19_eq : k0_pay19 rowNo V (peakMask V) 64#32 = pickRow (nextBlock V) := by
  unfold k0_pay19; rw [pay18_eq, pay17_eq]; rfl
theorem pay20_eq : k0_pay20 rowNo V (peakMask V) 64#32 = nextBlock (nextBlock V) := by
  unfold k0_pay20; rw [pay19_eq, pay17_eq]; rfl
theorem pay21_eq : k0_pay21 rowNo V (peakMask V) 64#32 = topRow (nextBlock (nextBlock V)) := by
  unfold k0_pay21; rw [pay20_eq]; rfl
theorem pay22_eq : k0_pay22 rowNo V (peakMask V) 64#32 = pickRow (nextBlock (nextBlock V)) := by
  unfold k0_pay22; rw [pay21_eq, pay20_eq]; rfl
theorem pay23_eq : k0_pay23 rowNo V (peakMask V) 64#32 = nextBlock (nextBlock (nextBlock V)) := by
  unfold k0_pay23; rw [pay22_eq, pay20_eq]; rfl
theorem pay24_eq : k0_pay24 rowNo V (peakMask V) 64#32 = topRow (nextBlock (nextBlock (nextBlock V))) := by
  unfold k0_pay24; rw [pay23_eq]; rfl
theorem pay25_eq : k0_pay25 rowNo V (peakMask V) 64#32 = pickRow (nextBlock (nextBlock (nextBlock V))) := by
  unfold k0_pay25; rw [pay24_eq, pay23_eq]; rfl
theorem pay26_eq : k0_pay26 rowNo V (peakMask V) 64#32 = nextBlock (nextBlock (nextBlock (nextBlock V))) := by
  unfold k0_pay26; rw [pay25_eq, pay23_eq]; rfl

/-- A block's column maxima before they are laid out as one row. -/
def maxes (V : FVec Ideal S64x4096 .f32) : FVec Ideal S4096 .f32 :=
  multiReduction .maximumf [0] S4096 V 0xFF800000#32 reduces_S64x4096_S4096 (.inl rfl) rfl

theorem pay27_eq : k0_pay27 rowNo V (peakMask V) 64#32 = maxes (nextBlock (nextBlock (nextBlock (nextBlock V)))) := by
  unfold k0_pay27; rw [pay26_eq]; rfl

/-! The last two rounds, from the block the seventh starts with and its maxima. -/

theorem pay1_eq : k0_pay1 (maxes V) = topRow V := rfl
theorem pay2_eq : k0_pay2 rowNo V (maxes V) = pickRow V := by unfold k0_pay2; rw [pay1_eq]; rfl
theorem pay3_eq : k0_pay3 rowNo V (maxes V) = nextBlock V := by unfold k0_pay3; rw [pay2_eq]; rfl
theorem pay4_eq : k0_pay4 rowNo V (maxes V) = topRow (nextBlock V) := by unfold k0_pay4; rw [pay3_eq]; rfl

/-! The values the stored pieces name. -/

theorem pay28_eq : k0_pay28 x w = rowNo := rfl
theorem pay29_eq : k0_pay29 x w = nextBlock (nextBlock (scores w x)) := by
  unfold k0_pay29
  rw [View.ld_unit_zero (by funext a; fin_cases a <;> rfl), View.ld_unit_zero (by funext a; fin_cases a <;> rfl), pay13_eq]
theorem pay30_eq : k0_pay30 x w = peakMask (nextBlock (nextBlock (scores w x))) := by
  unfold k0_pay30
  rw [View.ld_unit_zero (by funext a; fin_cases a <;> rfl), View.ld_unit_zero (by funext a; fin_cases a <;> rfl), pay15_eq]
theorem pay31_eq : k0_pay31 x w
    = nextBlock (nextBlock (nextBlock (nextBlock (nextBlock (nextBlock (scores w x)))))) := by
  unfold k0_pay31; rw [pay28_eq, pay29_eq, pay30_eq, pay26_eq]
theorem pay32_eq : k0_pay32 x w
    = maxes (nextBlock (nextBlock (nextBlock (nextBlock (nextBlock (nextBlock (scores w x))))))) := by
  unfold k0_pay32; rw [pay28_eq, pay29_eq, pay30_eq, pay27_eq]

end Payloads

/-- The first output block is the stack of picks of the scores. -/
theorem out2_eq (x : Vec Ideal S4096x1024 .f32) (w : Vec Ideal S64x1024 .f32) : out0_2 x w = pickStack (scores w x) := by
  unfold out0_2
  rw [View.canon_unit_zero (by funext a; fin_cases a <;> rfl), View.ld_unit_zero (by funext a; fin_cases a <;> rfl),
    View.ld_unit_zero (by funext a; fin_cases a <;> rfl), pay28_eq, pay29_eq, pay30_eq, pay31_eq, pay32_eq, pay9_eq, pay12_eq,
    pay16_eq, pay19_eq, pay22_eq, pay25_eq]
  unfold k0_pay5
  rw [pay2_eq, pay3_eq, pay4_eq]
  rfl

/-- The second output block is the stack of gates of the scores. -/
theorem out3_eq (x : Vec Ideal S4096x1024 .f32) (w : Vec Ideal S64x1024 .f32) : out0_3 x w = gateStack (scores w x) := by
  unfold out0_3
  rw [View.canon_unit_zero (by funext a; fin_cases a <;> rfl), View.ld_unit_zero (by funext a; fin_cases a <;> rfl),
    View.ld_unit_zero (by funext a; fin_cases a <;> rfl), pay28_eq, pay29_eq, pay30_eq, pay31_eq, pay32_eq, pay8_eq, pay11_eq,
    pay14_eq, pay18_eq, pay21_eq, pay24_eq]
  unfold k0_pay6
  rw [pay1_eq, pay4_eq]
  rfl

end Cert.Block

end
-- ==== Proof.Softmax.lean ====
/-
  A token's expert scores on the extended reals, and why no score is `⊥` when the inputs are real numbers.
-/
module

public import proofs.«01_k».proof.Proof.Rounds
public import Idealize.ShloMosaic.PureOps.Ideal.Laws

@[expose] public section

noncomputable section

namespace Cert.Softmax

open Idealize.ShloMosaic
open scoped BigOperators

/-- The logit of expert `e`: the inner product of the token's features with the expert's weights. -/
def logit (x : Fin 1024 → EReal) (w : Fin 64 → Fin 1024 → EReal) (e : Fin 64) : EReal := ∑ k : Fin 1024, x k * w e k

/-- A logit shifted by the largest one and exponentiated. -/
def expo (l : Fin 64 → EReal) (e : Fin 64) : EReal := Ideal.exp (l e - l (Rounds.first l))

/-- The softmax of the logits. -/
def score (l : Fin 64 → EReal) (e : Fin 64) : EReal := Ideal.div (expo l e) (∑ k : Fin 64, expo l k)

/-- A sum of real numbers, taken on the extended reals, is their real sum. -/
theorem sum_coe {ι : Type} (t : Finset ι) (f : ι → ℝ) : (∑ k ∈ t, (f k : EReal)) = ((∑ k ∈ t, f k : ℝ) : EReal) := by
  classical
  induction t using Finset.induction_on with
  | empty => simp
  | insert a t ha ih => rw [Finset.sum_insert ha, Finset.sum_insert ha, ih, EReal.coe_add]

/-- Real features and real weights give real logits. -/
theorem logit_real (x : Fin 1024 → EReal) (w : Fin 64 → Fin 1024 → EReal) (hx : ∀ k, ∃ r : ℝ, x k = r)
    (hw : ∀ e k, ∃ r : ℝ, w e k = r) (e : Fin 64) : ∃ r : ℝ, logit x w e = r := by
  choose a ha using hx
  choose b hb using hw
  refine ⟨∑ k : Fin 1024, a k * b e k, ?_⟩
  unfold logit
  rw [← sum_coe]
  refine Finset.sum_congr rfl fun k _ => ?_
  rw [ha, hb, EReal.coe_mul]

/-- Real logits give scores that are not `⊥`: the exponentials are real and their sum is positive. -/
theorem score_ne_bot (l : Fin 64 → EReal) (hl : ∀ e, ∃ r : ℝ, l e = r) (e : Fin 64) : score l e ≠ ⊥ := by
  choose a ha using hl
  have he : ∀ k, expo l k = ((Real.exp (a k - a (Rounds.first l)) : ℝ) : EReal) := fun k => by
    unfold expo
    rw [ha k, ha (Rounds.first l), ← EReal.coe_sub, Ideal.exp_coe]
  have hpos : 0 < ∑ k : Fin 64, Real.exp (a k - a (Rounds.first l)) :=
    Finset.sum_pos (fun k _ => Real.exp_pos _) ⟨0, Finset.mem_univ _⟩
  unfold score
  rw [he e, Finset.sum_congr rfl fun k _ => he k, sum_coe, Ideal.div_coe (ne_of_gt hpos), ← EReal.coe_mul]
  exact EReal.coe_ne_bot _

end Cert.Softmax

end
-- ==== Proof.KernelScores.lean ====
/-
  The kernel body's block of scores, column by column: column `j` holds the scores of the block's token `j`.
-/
module

public import proofs.«01_k».proof.Proof.Block
public import proofs.«01_k».proof.Proof.Softmax

@[expose] public section

noncomputable section

namespace Cert.Block

open Idealize.ShloMosaic hiding ix1 ix2
open Idealize.ShloMosaic.ValueIdx Cert.KernelIdeal Cert.KernelIdeal.Gen
open Cert.KernelIdeal.Facts
open scoped BigOperators

variable (w : Vec Ideal S64x1024 .f32) (x : Vec Ideal S4096x1024 .f32)

/-- The block of logits: the weights times the block's tokens. -/
def logits : FVec Ideal S64x4096 .f32 :=
  matmul (φ₁ := .f32) (φ₂ := .f32) dot_S64x1024_S4096x1024_S64x4096_1_1_0_0_n_n none w (shapeCast S4096x1024 x shapeCasts_S4096x1024_S4096x1024 : FVec Ideal S4096x1024 .f32)
    (constant S64x4096 .f32 0x00000000#32)

/-- The block of shifted and exponentiated logits. -/
def expos : FVec Ideal S64x4096 .f32 :=
  exp (subf (logits w x) (broadcastTo S64x4096 (topRow (logits w x)) broadcasts_S1x4096_S64x4096))

/-- The body's scores are the exponentials over their column sums. -/
theorem scores_eq : scores w x = divf (expos w x)
    (broadcastTo S64x4096
      (shapeCast S1x4096 (multiReduction .add [0] S4096 (expos w x) 0x00000000#32 reduces_S64x4096_S4096 (.inl rfl) rfl)
        shapeCasts_S4096_S1x4096) broadcasts_S1x4096_S64x4096) := rfl

/-- Column `j` of the logits: those of token `j`. -/
theorem col_logits (j : Fin 4096) :
    col (logits w x) j = Softmax.logit (fun k => x (ix2 j k)) (fun e k => w (ix2 e k)) := by
  funext e
  unfold col logits Softmax.logit
  rw [shapeCast_self]
  refine (Ideal.matmul_constant_zero_apply _ _ _ _ _).trans ?_
  rw [DotDims.sum_contr₁ (a := (1 : Fin 2)) dot_S64x1024_S4096x1024_S64x4096_1_1_0_0_n_n rfl (K := 1024) rfl]
  refine Finset.sum_congr rfl fun k _ => ?_
  rw [mul_comm]
  refine congrArg₂ (· * ·) (congrArg x ?_) (congrArg w ?_)
  · exact Shape.idx_ext₂ rfl rfl
  · exact Shape.idx_ext₂ rfl rfl

/-- Column `j` of the exponentials. -/
theorem col_expos (j : Fin 4096) : col (expos w x) j = Softmax.expo (col (logits w x) j) := by
  funext e
  show Ideal.exp (logits w x (ix2 e j) - broadcastTo S64x4096 (topRow (logits w x)) broadcasts_S1x4096_S64x4096 (ix2 e j)) = _
  rw [broadcastTo_1b_ab_apply, topRow_apply]
  rfl

/-- **Column `j` of the scores: the softmax of token `j`'s logits.** -/
theorem col_scores (j : Fin 4096) :
    col (scores w x) j = Softmax.score (Softmax.logit (fun k => x (ix2 j k)) (fun e k => w (ix2 e k))) := by
  rw [← col_logits]
  funext e
  rw [scores_eq]
  show Ideal.div (expos w x (ix2 e j)) (broadcastTo S64x4096 _ broadcasts_S1x4096_S64x4096 (ix2 e j)) = _
  rw [broadcastTo_1b_ab_apply, shapeCast_a_1a_apply]
  unfold Softmax.score
  rw [← col_expos]
  refine congrArg (Ideal.div _) ?_
  refine (Ideal.multiReduction_add_single (expos w x) _ _ _ _ (ix1 j)).trans (Finset.sum_congr rfl fun q _ => ?_)
  exact congrArg (expos w x) (lift_col _ j q)

end Cert.Block

end
-- ==== Proof.Array.lean ====
/-
  The kernel's two result arrays after the run, entry by entry: token `n` gets the experts taken in the eight rounds
  over its scores, and their normalised scores.
-/
module

public import proofs.«01_k».proof.Proof.KernelScores
public import proofs.«01_k».proof.Proof.Gen.KernelIdeal.Frame
public import Idealize.ShloMosaic.Lib.Pipeline.Value
public import Idealize.ShloMosaic.Lib.StableHlo.Run

@[expose] public section

noncomputable section

namespace Cert.Router

open Idealize.ShloMosaic hiding ix1 ix2
open Idealize.ShloMosaic.ValueIdx Cert.KernelIdeal Cert.KernelIdeal.Gen Idealize.ShloMosaic.TcCoe Idealize.SL.Sem
open Idealize.ShloMosaic.Pipeline (Dat)

/-- The scores of token `n`, from the matrix of tokens and the matrix of gate weights. -/
def tokenScores (X : S32768x1024.Idx → EReal) (W : S64x1024.Idx → EReal) (n : Fin 32768) : Fin 64 → EReal :=
  Softmax.score (Softmax.logit (fun k => X (ix2 n k)) (fun e k => W (ix2 e k)))

/-- The routed experts: entry `(n, r)` is the expert taken in round `r` over token `n`'s scores. -/
def experts (X : S32768x1024.Idx → EReal) (W : S64x1024.Idx → EReal) : S32768x8.Idx → BitVec 32 :=
  fun i => BitVec.ofNat 32 (Rounds.taken (tokenScores X W (i 0)) (i 1).val).val

/-- The gates: entry `(n, r)` is the normalised score of the expert taken in round `r`. -/
def gates (X : S32768x1024.Idx → EReal) (W : S64x1024.Idx → EReal) : S32768x8.Idx → EReal :=
  fun i => Block.gate (tokenScores X W (i 0)) (i 1)

variable (m : (ℓ : Loc nD τ sig) → Buf (Elt Ideal) ℓ) (ρ : Dev nD → PrngReg) (c : Dev nD)

/-- The matrix of tokens: the features with the batch and the sequence axes joined. -/
def tokens : S32768x1024.Idx → EReal :=
  shapeCast S32768x1024 (m ((c : Thread nD τ).loc main_arg0) : S4x8192x1024.Idx → EReal) Facts₀.shapeCasts_S4x8192x1024_S32768x1024

/-- The matrix of gate weights. -/
def weights : S64x1024.Idx → EReal := m ((c : Thread nD τ).loc main_arg1)

/-- The launch finds the matrix of tokens in its first operand. -/
theorem entry_tokens : V m c main_v0 = tokens m c := by
  show StableHlo.after hostOps0 (fun b => m (c, b)) (Proc.devRef .tc main_v0) = _
  after_results <;> rfl

/-- Grid point `t` takes rows `4096 t, …` of the tokens. -/
theorem index_tokens : ∀ t : Fin grid0.N, win0_0.index t 0 = t.val ∧ win0_0.index t 1 = 0 := by decide +kernel
/-- Every grid point takes the whole matrix of gate weights. -/
theorem index_weights : ∀ t : Fin grid0.N, win0_1.index t 0 = 0 ∧ win0_1.index t 1 = 0 := by decide +kernel
/-- Grid point `t` writes columns `4096 t, …` of the experts. -/
theorem index_experts : ∀ t : Fin grid0.N, win0_2.index t 0 = 0 ∧ win0_2.index t 1 = t.val := by decide +kernel
/-- Grid point `t` writes columns `4096 t, …` of the gates. -/
theorem index_gates : ∀ t : Fin grid0.N, win0_3.index t 0 = 0 ∧ win0_3.index t 1 = t.val := by decide +kernel
/-- Every grid point writes its block of experts back. -/
theorem flush_experts : ∀ t : Fin grid0.N, win0_2.flush t = true := by decide +kernel
/-- Every grid point writes its block of gates back. -/
theorem flush_gates : ∀ t : Fin grid0.N, win0_3.flush t = true := by decide +kernel

/-- Blocks of experts of different grid points do not meet. -/
theorem apart_experts (t t' : Fin cfg0.N) (_ : (cfg0.win 2).flush t = true) (_ : (cfg0.win 2).flush t' = true) (hne : t ≠ t') :
    Disjoint ((cfg0.win 2).blk t).view.set ((cfg0.win 2).blk t').view.set :=
  (cfg0.win 2).disjoint_blk fun h => hne (Fin.ext (by
    have h1 := congrFun h 1
    exact (index_experts t).2.symm.trans (h1.trans (index_experts t').2)))

/-- Blocks of gates of different grid points do not meet. -/
theorem apart_gates (t t' : Fin cfg0.N) (_ : (cfg0.win 3).flush t = true) (_ : (cfg0.win 3).flush t' = true) (hne : t ≠ t') :
    Disjoint ((cfg0.win 3).blk t).view.set ((cfg0.win 3).blk t').view.set :=
  (cfg0.win 3).disjoint_blk fun h => hne (Fin.ext (by
    have h1 := congrFun h 1
    exact (index_gates t).2.symm.trans (h1.trans (index_gates t').2)))

/-- Token `j` of grid point `t`'s block. -/
def at_ (t : Fin grid0.N) (j : Fin 4096) : Fin 32768 :=
  ⟨t.val * 4096 + j.val, by have h : t.val < 8 := t.isLt; omega⟩

/-- Entry `(j, k)` of point `t`'s block of tokens. -/
theorem block_tokens (t : Fin cfg0.N) (j : Fin 4096) (k : Fin 1024) :
    (iblk m c 0 t : S4096x1024.Idx → EReal) (ix2 j k) = tokens m c (ix2 (at_ t j) k) := by
  rw [← entry_tokens]
  refine congrArg (V m c main_v0) (Shape.idx_ext₂ ?_ ?_)
  · refine ((win0_0.rect_emb_val t (ix2 j k) 0).trans (by rw [(index_tokens t).1]; rfl))
  · refine ((win0_0.rect_emb_val t (ix2 j k) 1).trans (by rw [(index_tokens t).2]; exact (congrArg (· + k.val) (Nat.zero_mul _)).trans (Nat.zero_add _)))

/-- Entry `(e, k)` of point `t`'s block of gate weights. -/
theorem block_weights (t : Fin cfg0.N) (e : Fin 64) (k : Fin 1024) :
    (iblk m c 1 t : S64x1024.Idx → EReal) (ix2 e k) = weights m c (ix2 e k) := by
  unfold weights
  rw [← V_main_arg1 m c]
  refine congrArg (V m c main_arg1) (Shape.idx_ext₂ ?_ ?_)
  · refine ((win0_1.rect_emb_val t (ix2 e k) 0).trans (by rw [(index_weights t).1]; exact (congrArg (· + e.val) (Nat.zero_mul _)).trans (Nat.zero_add _)))
  · refine ((win0_1.rect_emb_val t (ix2 e k) 1).trans (by rw [(index_weights t).2]; exact (congrArg (· + k.val) (Nat.zero_mul _)).trans (Nat.zero_add _)))

/-- Column `j` of point `t`'s scores: those of token `4096 t + j`. -/
theorem block_scores (t : Fin cfg0.N) (j : Fin 4096) :
    Block.col (Block.scores (iblk m c 1 t) (iblk m c 0 t)) j = tokenScores (tokens m c) (weights m c) (at_ t j) := by
  rw [Block.col_scores]
  unfold tokenScores
  refine congrArg Softmax.score (congrArg₂ Softmax.logit ?_ ?_)
  · funext k; exact block_tokens m c t j k
  · funext e k; exact block_weights m c t e k

/-- Entry `(r, 4096 t + j)` of the kernel's array of experts. -/
theorem array_experts (t : Fin cfg0.N) (r : Fin 8) (j : Fin 4096) :
    ((dats m 0 c).arrAt 2 cfg0.N : S8x32768.Idx → BitVec 32) (ix2 r (at_ t j))
      = BitVec.ofNat 32 (Rounds.taken (tokenScores (tokens m c) (weights m c) (at_ t j)) r.val).val := by
  have h := (dats m 0 c).arrAt_emb_eq_flushed 2 apart_experts t (flush_experts t) (ix2 r j)
  have hi : (ix2 r (at_ t j) : S8x32768.Idx) = ((cfg0.win 2).blk t).view.emb (ix2 r j) := by
    refine Shape.idx_ext₂ ?_ ?_
    · refine ((win0_2.rect_emb_val t (ix2 r j) 0).trans (by rw [(index_experts t).1]; exact (congrArg (· + r.val) (Nat.zero_mul _)).trans (Nat.zero_add _))).symm
    · refine ((win0_2.rect_emb_val t (ix2 r j) 1).trans (by rw [(index_experts t).2]; rfl)).symm
  refine (congrArg ((dats m 0 c).arrAt 2 cfg0.N : S8x32768.Idx → BitVec 32) hi).trans (h.trans ?_)
  show ((dats m 0 c).after 2 t : S8x4096.Idx → BitVec 32) (ix2 r j) = _
  rw [after0_2, Block.out2_eq, Block.pickStack_apply, block_scores]

/-- Entry `(r, 4096 t + j)` of the kernel's array of gates. -/
theorem array_gates (t : Fin cfg0.N) (r : Fin 8) (j : Fin 4096) :
    ((dats m 0 c).arrAt 3 cfg0.N : S8x32768.Idx → EReal) (ix2 r (at_ t j))
      = Block.gate (tokenScores (tokens m c) (weights m c) (at_ t j)) r := by
  have h := (dats m 0 c).arrAt_emb_eq_flushed 3 apart_gates t (flush_gates t) (ix2 r j)
  have hi : (ix2 r (at_ t j) : S8x32768.Idx) = ((cfg0.win 3).blk t).view.emb (ix2 r j) := by
    refine Shape.idx_ext₂ ?_ ?_
    · refine ((win0_3.rect_emb_val t (ix2 r j) 0).trans (by rw [(index_gates t).1]; exact (congrArg (· + r.val) (Nat.zero_mul _)).trans (Nat.zero_add _))).symm
    · refine ((win0_3.rect_emb_val t (ix2 r j) 1).trans (by rw [(index_gates t).2]; rfl)).symm
  refine (congrArg ((dats m 0 c).arrAt 3 cfg0.N : S8x32768.Idx → EReal) hi).trans (h.trans ?_)
  show ((dats m 0 c).after 3 t : S8x4096.Idx → EReal) (ix2 r j) = _
  rw [after0_3, Block.out3_eq, Block.gateStack_apply, block_scores]

/-- Every token lies in one grid point's block. -/
theorem exists_at (n : Fin 32768) : ∃ (t : Fin grid0.N) (j : Fin 4096), at_ t j = n :=
  ⟨⟨n.val / 4096, show n.val / 4096 < 8 by omega⟩, ⟨n.val % 4096, by omega⟩, Fin.ext (by
    show n.val / 4096 * 4096 + n.val % 4096 = n.val
    omega)⟩

/-- The two arrays turned into rows of tokens. -/
theorem turned_experts : transpose S32768x8 [1, 0] ((dats m 0 c).arrAt 2 cfg0.N : S8x32768.Idx → BitVec 32)
    Facts₀.transposes_S8x32768_S32768x8_1_0 = experts (tokens m c) (weights m c) := by
  funext i
  obtain ⟨n, r, rfl⟩ : ∃ (n : Fin 32768) (r : Fin 8), i = ix2 n r := ⟨i 0, i 1, Shape.idx_ext₂ rfl rfl⟩
  obtain ⟨t, j, rfl⟩ := exists_at n
  exact (transpose_ix2_apply _ _ _ _).trans (array_experts m c t r j)

/-- The gates as rows of tokens. -/
theorem turned_gates : transpose S32768x8 [1, 0] ((dats m 0 c).arrAt 3 cfg0.N : S8x32768.Idx → EReal)
    Facts₀.transposes_S8x32768_S32768x8_1_0 = gates (tokens m c) (weights m c) := by
  funext i
  obtain ⟨n, r, rfl⟩ : ∃ (n : Fin 32768) (r : Fin 8), i = ix2 n r := ⟨i 0, i 1, Shape.idx_ext₂ rfl rfl⟩
  obtain ⟨t, j, rfl⟩ := exists_at n
  exact (transpose_ix2_apply _ _ _ _).trans (array_gates m c t r j)

/-- What the last host lines leave in the first result. -/
theorem tail_experts : Pipeline.afterTail₀ cfgs (dats m) 0 (V0 m) [hostOps1] c main_v2 = experts (tokens m c) (weights m c) := by
  rw [← turned_experts]
  unfold Pipeline.afterTail₀
  after_results
  · exact congrArg (fun x : S8x32768.Idx → BitVec 32 => transpose S32768x8 [1, 0] x Facts₀.transposes_S8x32768_S32768x8_1_0)
      (Pipeline.withArrays_arr spec0 (by decide) c (V0 m c) (fun w => (dats m 0 c).arrAt w cfg0.N) 2)

/-- What the last host lines leave in the second result. -/
theorem tail_gates : Pipeline.afterTail₀ cfgs (dats m) 0 (V0 m) [hostOps1] c main_v3 = gates (tokens m c) (weights m c) := by
  rw [← turned_gates]
  unfold Pipeline.afterTail₀
  after_results
  · exact congrArg (fun x : S8x32768.Idx → EReal => transpose S32768x8 [1, 0] x Facts₀.transposes_S8x32768_S32768x8_1_0)
      (Pipeline.withArrays_arr spec0 (by decide) c (V0 m c) (fun w => (dats m 0 c).arrAt w cfg0.N) 3)

/-- **The kernel's run: both results named, the arguments unchanged.** -/
theorem run : θ_run defs (onTc (τ := τ) (main (F := Ideal))) ⟨m, fun _ => 0, ρ⟩ fun r => ∀ c : Dev nD,
    r.2.mem ((c : Thread nD τ).loc main_v2) = experts (tokens m c) (weights m c)
    ∧ r.2.mem ((c : Thread nD τ).loc main_v3) = gates (tokens m c) (weights m c)
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c =>
    ⟨((h c).2 main_v2 (Pipeline.mem_restRefs_of main_v2 (by decide) (by decide))).trans (tail_experts m c),
      ((h c).2 main_v3 (Pipeline.mem_restRefs_of main_v3 (by decide) (by decide))).trans (tail_gates m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.Router

end
-- ==== Proof.Finite.lean ====
/-
  What the precondition says: every feature and every gate weight is a real number, so no score is `⊥`.
-/
module

public import proofs.«01_k».proof.Defs
public import proofs.«01_k».proof.Proof.Array
public import Idealize.ShloMosaic.Lib.ReduceAll
public import Idealize.ShloMosaic.Lib.IdealHost
public import Idealize.ShloMosaic.Lib.ShapeFacts

@[expose] public section

noncomputable section

namespace Cert.Finite

open Idealize.ShloMosaic hiding ix0 ix1 ix2
open Idealize.ShloMosaic.ValueIdx Idealize.ShloMosaic.TcCoe
open Cert.Pre_finite_inputs (S4x8192x1024 S64x1024 S_)

/-- The shape relations of the precondition's operations. -/
instance facts : Cert.Pre_finite_inputs.Facts where
  bcast_S_S4x8192x1024 := by decide
  reducesTo_S4x8192x1024_S_d0_1_2 := by decide
  h_S_ := by decide
  bcast_S_S64x1024 := by decide
  reducesTo_S64x1024_S_d0_1 := by decide

/-- The word `0x7F800000` denotes `⊤`. -/
theorem posInf : Ideal.ofBits .f32 0x7F800000#32 = (⊤ : EReal) := by simp [Ideal.ofBits, Ideal.ieee]

/-- An extended real whose magnitude is below `⊤` is a real number. -/
theorem real_of_abs_lt (x : EReal) (h : Ideal.cmp .olt (max x (-x)) (Ideal.ofBits .f32 0x7F800000#32) = 1#1) : ∃ r : ℝ, x = r := by
  rw [posInf] at h
  have hlt : max x (-x) < ⊤ := by
    by_contra hn
    have h0 : Ideal.cmp .olt (max x (-x)) ⊤ = 0#1 := by
      show BitVec.ofBool (decide (max x (-x) < ⊤)) = 0#1
      rw [decide_eq_false hn]
      rfl
    exact absurd (h.symm.trans h0) (by decide)
  have ht : x ≠ ⊤ := fun e => by rw [e, max_eq_left le_top] at hlt; exact lt_irrefl _ hlt
  have hb : x ≠ ⊥ := fun e => by rw [e, EReal.neg_bot, max_eq_right le_top] at hlt; exact lt_irrefl _ hlt
  exact ⟨x.toReal, (EReal.coe_toReal ht hb).symm⟩

/-- A printed test that every entry's magnitude is below `⊤` makes every entry real. -/
theorem real_of_all {s : Shape} {axes : List (Fin s.rank)} (x : FVec Ideal s .f32) (hb : S_.BroadcastsInDim s ![])
    (hr : s.ReducesTo axes S_) (hu : 0 < S_.numel)
    (h : Host.reduce IntOp.andi (cmpf .olt (Host.absf x) (broadcastInDim s ![] hb (constant (F := Ideal) S_ .f32 0x7F800000#32)))
      (constantI S_ 1 1#1) hr hu = fun _ => 1#1) (i : s.Idx) : ∃ r : ℝ, x i = r := by
  have : Subsingleton S_.Idx := ⟨fun a b => funext fun c => c.elim0⟩
  have h1 := Host.reduce_andi_all _ _ hr hu ix0 (congrFun h ix0) i
  refine real_of_abs_lt (x i) (Eq.trans ?_ h1)
  show _ = Ideal.cmp .olt (max (x i) (-(x i))) (broadcastInDim s ![] hb (constant (F := Ideal) S_ .f32 0x7F800000#32) i)
  rw [broadcastInDim_scalar_apply]
  rfl

/-- The precondition of two arrays makes every entry of both real. -/
theorem real_of_pre (x : FVec Ideal S4x8192x1024 .f32) (w : FVec Ideal S64x1024 .f32)
    (hx : (Cert.Pre_finite_inputs.fn (F := Ideal) x w).1 = fun _ => 1#1)
    (hw : (Cert.Pre_finite_inputs.fn (F := Ideal) x w).2 = fun _ => 1#1) :
    (∀ i, ∃ r : ℝ, x i = r) ∧ ∀ i, ∃ r : ℝ, w i = r := by
  unfold Cert.Pre_finite_inputs.fn at hx hw
  dsimp only at hx hw
  exact ⟨real_of_all x _ _ _ hx, real_of_all w _ _ _ hw⟩

/-- Joining the batch and the sequence axes moves entries only. -/
theorem joined_real (x : S4x8192x1024.Idx → EReal) (h : S4x8192x1024.ShapeCasts Cert.KernelIdeal.S32768x1024)
    (hx : ∀ i, ∃ r : ℝ, x i = r) (i : Cert.KernelIdeal.S32768x1024.Idx) :
    ∃ r : ℝ, shapeCast Cert.KernelIdeal.S32768x1024 x h i = r := by
  unfold shapeCast
  exact hx _

/-- Under the precondition no token has a score `⊥`. -/
theorem tokenScores_ne_bot (m : (ℓ : Loc Cert.KernelIdeal.nD Cert.KernelIdeal.τ Cert.KernelIdeal.sig) → Buf (Elt Ideal) ℓ)
    (h : Cert.Pre_KernelIdeal_finite_inputs m) (c : Dev Cert.KernelIdeal.nD) (n : Fin 32768) (e : Fin 64) :
    Router.tokenScores (Router.tokens m c) (Router.weights m c) n e ≠ ⊥ := by
  have hr := real_of_pre _ _ (h c).1 (h c).2
  unfold Router.tokenScores
  refine Softmax.score_ne_bot _ (Softmax.logit_real _ _ (fun k => ?_) fun e k => ?_) e
  · exact joined_real _ _ hr.1 _
  · exact hr.2 _

end Cert.Finite

end
-- ==== Proof.Reference.lean ====
/-
  The reference's two results, entry by entry: where no score is `⊥`, its `top_k` gives the experts taken in the
  eight rounds, and its gates are their normalised scores.
-/
module

public import proofs.«01_k».proof.Proof.Array
public import proofs.«01_k».proof.Proof.Gen.ReferenceIdeal.Run
public import Idealize.ShloMosaic.Lib.IdealHost
public import Idealize.ShloMosaic.Lib.KernelVsHost

@[expose] public section

noncomputable section

namespace Cert.Reference

open Idealize.ShloMosaic hiding ix1 ix2
open Idealize.ShloMosaic.ValueIdx Cert.ReferenceIdeal Idealize.ShloMosaic.TcCoe Idealize.SL.Sem
open Cert.ReferenceIdeal.Facts₀
open scoped BigOperators

/-- Row `n` of a matrix. -/
def row {a b : ℕ} (x : (⟨2, ![a, b]⟩ : Shape).Idx → EReal) (n : Fin a) (e : Fin b) : EReal := x (ix2 n e)

/-- A result row's index extended by the reduced coordinate. -/
theorem lift_row {b : ℕ} (h : (⟨2, ![32768, b]⟩ : Shape).Reduces [1] S32768) (n : Fin 32768) (k : Fin b) :
    h.lift (ix1 n) k = (ix2 n k : (⟨2, ![32768, b]⟩ : Shape).Idx) :=
  Shape.idx_ext₂ rfl rfl

/-- A vector spread over the columns of a matrix, through a column of its own. -/
theorem spread_apply {b : ℕ} (v : S32768.Idx → EReal) (h : S32768x1.BroadcastsInDim ⟨2, ![32768, b]⟩ ![0, 1]) (n : Fin 32768) (e : Fin b) :
    broadcastInDim ⟨2, ![32768, b]⟩ ![0, 1] h (broadcastInDim S32768x1 ![0] bcast_S32768_S32768x1_0 v) (ix2 n e) = v (ix1 n) := by
  refine (broadcastInDim_apply _ _ _ _ (ix2 n 0 : S32768x1.Idx) fun a => ?_).trans ?_
  · match a with
    | ⟨0, _⟩ => rfl
    | ⟨1, _⟩ => rfl
  · refine broadcastInDim_apply _ _ _ _ (ix1 n : S32768.Idx) fun a => ?_
    match a with
    | ⟨0, _⟩ => rfl

variable (X : FVec Ideal S32768x1024 .f32) (W : FVec Ideal S64x1024 .f32)

/-- The reference's logits: the tokens times the transposed gate weights. -/
def logits : FVec Ideal S32768x64 .f32 :=
  Host.dotGeneral (φ₁ := .f32) (φ₂ := .f32) dot_S32768x1024_S1024x64_S32768x64_1_0_0_1_n_n none X
    (transpose S1024x64 [1, 0] W transposes_S64x1024_S1024x64_1_0 : FVec Ideal S1024x64 .f32)

/-- The largest logit of each row. -/
def tops : FVec Ideal S32768 .f32 :=
  maximumf (broadcastInDim S32768 ![] bcast_S_S32768 (constant S_ .f32 0xFF800000#32))
    (Host.reduce FloatOps.maximumf (logits X W) (constant S_ .f32 0xFF800000#32) reducesTo_S32768x64_S32768_d1 h_S_)

/-- The shifted and exponentiated logits. -/
def expos : FVec Ideal S32768x64 .f32 :=
  Host.exp (subf (logits X W) (broadcastInDim S32768x64 ![0, 1] bcast_S32768x1_S32768x64_0_1
    (broadcastInDim S32768x1 ![0] bcast_S32768_S32768x1_0 (tops X W))))

/-- The reference's scores. -/
def scores : FVec Ideal S32768x64 .f32 :=
  Host.divf (expos X W) (broadcastInDim S32768x64 ![0, 1] bcast_S32768x1_S32768x64_0_1
    (broadcastInDim S32768x1 ![0] bcast_S32768_S32768x1_0
      (Host.reduceAdd (expos X W) (constant S_ .f32 0x00000000#32) reducesTo_S32768x64_S32768_d1 h_S_)))

/-- Row `n` of the logits. -/
theorem row_logits (n : Fin 32768) :
    row (logits X W) n = Softmax.logit (fun k => X (ix2 n k)) (fun e k => W (ix2 e k)) := by
  funext e
  unfold row logits Softmax.logit
  refine (Ideal.dotGeneral_apply _ _ _ _ _ _).trans ?_
  rw [DotDims.sum_contr₁ (a := (1 : Fin 2)) dot_S32768x1024_S1024x64_S32768x64_1_0_0_1_n_n rfl (K := 1024) rfl]
  refine Finset.sum_congr rfl fun k _ => ?_
  refine congrArg₂ (· * ·) (congrArg X ?_) ?_
  · exact Shape.idx_ext₂ rfl rfl
  · refine Eq.trans (congrArg _ ?_) (transpose_ix2_apply W transposes_S64x1024_S1024x64_1_0 k e)
    exact Shape.idx_ext₂ rfl rfl

/-- The reference's largest logit of row `n`. -/
theorem tops_apply (n : Fin 32768) : tops X W (ix1 n) = row (logits X W) n (Rounds.first (row (logits X W) n)) := by
  have h : S32768x64.Reduces [1] S32768 := by decide
  have hr : Host.reduce FloatOps.maximumf (logits X W) (constant S_ .f32 0xFF800000#32) reducesTo_S32768x64_S32768_d1 h_S_ (ix1 n)
      = row (logits X W) n (Rounds.first (row (logits X W) n)) := by
    refine (congrFun (hostReduce_maximumf_eq_multiReduction (logits X W) (0xFF800000#32 : BitVec FTy.f32.bits) reducesTo_S32768x64_S32768_d1 h_S_ h (.inl rfl) rfl) (ix1 n)).trans ?_
    refine (Ideal.multiReduction_maximumf_single (logits X W) _ _ _ _ (ix1 n)).trans ?_
    rw [Block.negInf, ← Block.fold_max (row (logits X W) n)]
    refine congrArg (Finset.fold max ⊥ · Finset.univ) (funext fun k : Fin 64 => ?_)
    exact congrArg (logits X W) (lift_row _ n k)
  show max (broadcastInDim S32768 ![] bcast_S_S32768 (constant (F := Ideal) S_ .f32 0xFF800000#32) (ix1 n)) _ = _
  rw [hr, broadcastInDim_scalar_apply]
  exact (congrArg (max · _) Block.negInf).trans (max_eq_right bot_le)

/-- Row `n` of the exponentials. -/
theorem row_expos (n : Fin 32768) : row (expos X W) n = Softmax.expo (row (logits X W) n) := by
  funext e
  show Ideal.exp (logits X W (ix2 n e) - broadcastInDim S32768x64 ![0, 1] bcast_S32768x1_S32768x64_0_1
    (broadcastInDim S32768x1 ![0] bcast_S32768_S32768x1_0 (tops X W)) (ix2 n e)) = _
  rw [spread_apply, tops_apply]
  rfl

/-- A row's sum. -/
theorem sum_apply {b : ℕ} (x : FVec Ideal ⟨2, ![32768, b]⟩ .f32) (h' : (⟨2, ![32768, b]⟩ : Shape).ReducesTo [1] S32768)
    (h : (⟨2, ![32768, b]⟩ : Shape).Reduces [1] S32768) (n : Fin 32768) :
    Host.reduceAdd x (constant S_ .f32 0x00000000#32) h' h_S_ (ix1 n) = ∑ e : Fin b, row x n e := by
  rw [hostReduceAdd_apply]
  refine (Ideal.hostReduceAdd_single h' h _ _ _).trans ?_
  refine (congrArg (· + _) Ideal.ofBits_zero_f32).trans ((zero_add _).trans (Finset.sum_congr rfl fun k _ => ?_))
  exact congrArg x (lift_row h n k)

/-- **Row `n` of the reference's scores: the softmax of token `n`'s logits.** -/
theorem row_scores (n : Fin 32768) : row (scores X W) n = Router.tokenScores X W n := by
  unfold Router.tokenScores
  rw [← row_logits]
  funext e
  show scores X W (ix2 n e) = _
  unfold scores
  rw [hostDivf_apply, spread_apply, sum_apply _ _ (by decide)]
  unfold Softmax.score
  rw [← row_expos]
  rfl

/-- The reference's `top_k` of a matrix of scores. -/
def best (x : FVec Ideal S32768x64 .f32) : FVec Ideal S32768x8 .f32 × IVec S32768x8 32 :=
  Host.topK S32768x8 1 (FloatOps.cmpfTotal .gt) x sliceFits_S32768x64_S32768x8

/-- The reference's gates from its best scores. -/
def normalised (v : FVec Ideal S32768x8 .f32) : FVec Ideal S32768x8 .f32 :=
  Host.divf v (broadcastInDim S32768x8 ![0, 1] bcast_S32768x1_S32768x8_0_1
    (addf (broadcastInDim S32768x1 ![0] bcast_S32768_S32768x1_0
        (Host.reduceAdd v (constant S_ .f32 0x00000000#32) reducesTo_S32768x8_S32768_d1 h_S_))
      (broadcastInDim S32768x1 ![] bcast_S_S32768x1 (constant S_ .f32 0x358637BD#32))))

/-- The position `top_k` gives rank `r` in row `n`. -/
def place (x : FVec Ideal S32768x64 .f32) (n : Fin 32768) (r : Fin 8) : Fin 64 :=
  sortedFrom (fun k k' : Fin 64 => FloatOps.cmpfTotal (F := Ideal) (φ := .f32) .gt (x (ix2 n k)) (x (ix2 n k')) == 1#1) (r.castLE (by decide))

/-- `top_k` of a matrix along its rows reads the entries and their positions at the sorted places. -/
theorem topK_apply {a b k : ℕ} (gt : EReal → EReal → BitVec 1) (x : (⟨2, ![a, b]⟩ : Shape).Idx → EReal)
    (h : (⟨2, ![a, b]⟩ : Shape).Slices (fun _ => 0) ⟨2, ![a, k]⟩) (hk : k ≤ b) (n : Fin a) (r : Fin k) :
    (Host.topK ⟨2, ![a, k]⟩ 1 gt x h).1 (ix2 n r)
        = x (ix2 n (sortedFrom (fun q q' : Fin b => gt (x (ix2 n q)) (x (ix2 n q')) == 1#1) (r.castLE hk)))
      ∧ (Host.topK ⟨2, ![a, k]⟩ 1 gt x h).2 (ix2 n r)
        = BitVec.ofNat 32 (sortedFrom (fun q q' : Fin b => gt (x (ix2 n q)) (x (ix2 n q')) == 1#1) (r.castLE hk)).val := by
  have ha : ∀ e q : Fin b, Shape.Idx.along (s := ⟨2, ![a, b]⟩) (ix2 n e) 1 q = ix2 n q := fun _ _ => Shape.idx_ext₂ rfl rfl
  have hi : ∀ c : Fin 2, ((ix2 n (r.castLE hk) : (⟨2, ![a, b]⟩ : Shape).Idx) c).val
      = 0 + ((ix2 n r : (⟨2, ![a, k]⟩ : Shape).Idx) (c.cast h.1.symm)).val := fun c => by
    match c with
    | ⟨0, _⟩ => exact (Nat.zero_add _).symm
    | ⟨1, _⟩ => exact (Nat.zero_add _).symm
  have hp : sortedFrom (fun q q' : Fin b => gt (x (Shape.Idx.along (s := ⟨2, ![a, b]⟩) (ix2 n (r.castLE hk)) 1 q))
        (x (Shape.Idx.along (s := ⟨2, ![a, b]⟩) (ix2 n (r.castLE hk)) 1 q')) == 1#1) (r.castLE hk)
      = sortedFrom (fun q q' : Fin b => gt (x (ix2 n q)) (x (ix2 n q')) == 1#1) (r.castLE hk) := by
    simp only [ha]
  unfold Host.topK
  dsimp only
  constructor
  · refine (extractStridedSlice_apply (fun _ => 0) _ h _ (ix2 n (r.castLE hk)) hi).trans ?_
    unfold Host.sort2
    rw [dif_pos (show 1 < 2 by decide)]
    refine Eq.trans (b := x (Shape.Idx.along (s := ⟨2, ![a, b]⟩) (ix2 n (r.castLE hk)) 1 _)) rfl ?_
    exact (congrArg x (ha _ _)).trans (congrArg (fun q => x (ix2 n q)) hp)
  · refine (extractStridedSlice_apply (fun _ => 0) _ h _ (ix2 n (r.castLE hk)) hi).trans ?_
    unfold Host.sort2
    rw [dif_pos (show 1 < 2 by decide)]
    exact congrArg (fun q : Fin b => BitVec.ofNat 32 q.val) hp

/-- The reference's `top_k` reads the scores and their positions at the sorted places. -/
theorem best_apply (x : FVec Ideal S32768x64 .f32) (n : Fin 32768) (r : Fin 8) :
    (best x).1 (ix2 n r) = row x n (place x n r) ∧ (best x).2 (ix2 n r) = BitVec.ofNat 32 (place x n r).val :=
  topK_apply (FloatOps.cmpfTotal (F := Ideal) (φ := .f32) .gt) x sliceFits_S32768x64_S32768x8 (by decide) n r

/-- Where no score is `⊥`, the place of rank `r` is what round `r` takes. -/
theorem place_eq (x : FVec Ideal S32768x64 .f32) (n : Fin 32768) (hx : ∀ e, row x n e ≠ ⊥) (r : Fin 8) :
    place x n r = Rounds.taken (row x n) r.val := by
  unfold place
  refine Rounds.sortedFrom_eq_taken (row x n) hx 8 (by decide) r _ fun k k' => ?_
  rw [Ideal.cmpfTotal_def]
  show (BitVec.ofBool (decide (x (ix2 n k') < x (ix2 n k))) == 1#1) = _
  unfold row
  by_cases h : x (ix2 n k') < x (ix2 n k)
  · rw [decide_eq_true h]; rfl
  · rw [decide_eq_false h]; rfl

/-- **The reference's experts are the experts taken in the rounds.** -/
theorem experts_eq (hs : ∀ n e, Router.tokenScores X W n e ≠ ⊥) : (best (scores X W)).2 = Router.experts X W := by
  funext i
  obtain ⟨n, r, rfl⟩ : ∃ (n : Fin 32768) (r : Fin 8), i = ix2 n r := ⟨i 0, i 1, Shape.idx_ext₂ rfl rfl⟩
  rw [(best_apply _ n r).2, place_eq _ n (by rw [row_scores]; exact hs n), row_scores]
  rfl

/-- The reference's best scores are the scores the rounds take. -/
theorem best_score (hs : ∀ n e, Router.tokenScores X W n e ≠ ⊥) (n : Fin 32768) (r : Fin 8) :
    (best (scores X W)).1 (ix2 n r)
      = Rounds.state (Router.tokenScores X W n) r (Rounds.taken (Router.tokenScores X W n) r) := by
  rw [(best_apply _ n r).1, place_eq _ n (by rw [row_scores]; exact hs n), row_scores,
    Rounds.state_taken _ (hs n) r.val (lt_of_lt_of_le r.isLt (by decide))]

/-- **The reference's gates are the normalised scores the rounds take.** -/
theorem gates_eq (hs : ∀ n e, Router.tokenScores X W n e ≠ ⊥) : normalised (best (scores X W)).1 = Router.gates X W := by
  funext i
  obtain ⟨n, r, rfl⟩ : ∃ (n : Fin 32768) (r : Fin 8), i = ix2 n r := ⟨i 0, i 1, Shape.idx_ext₂ rfl rfl⟩
  show normalised _ (ix2 n r) = Block.gate (Router.tokenScores X W n) r
  unfold normalised Block.gate
  rw [hostDivf_apply, best_score X W hs]
  refine congrArg (Ideal.div _) ?_
  refine (broadcastInDim_apply _ _ _ _ (ix2 n 0 : S32768x1.Idx) fun a => ?_).trans ?_
  · match a with
    | ⟨0, _⟩ => rfl
    | ⟨1, _⟩ => rfl
  refine congrArg₂ (· + ·) ?_ ?_
  · refine (broadcastInDim_apply _ _ _ _ (ix1 n : S32768.Idx) fun a => ?_).trans ?_
    · match a with
      | ⟨0, _⟩ => rfl
    · rw [sum_apply _ _ (by decide)]
      exact Finset.sum_congr rfl fun q _ => best_score X W hs n q
  · exact broadcastInDim_scalar_apply _ _ _

end Cert.Reference

end
-- ==== Proof.ReferenceRun.lean ====
/-
  The reference's run, its results named by the routed experts and their gates.
-/
module

public import proofs.«01_k».proof.Proof.Reference
public import Idealize.ShloMosaic.Lib.Quiescent

@[expose] public section

noncomputable section

namespace Cert.Reference

open Idealize.ShloMosaic hiding ix0 ix1 ix2
open Idealize.ShloMosaic.ValueIdx Cert.ReferenceIdeal Idealize.ShloMosaic.TcCoe Idealize.SL.Sem
open Cert.ReferenceIdeal.Facts₀

variable (m : (ℓ : Loc nD τ sig) → Buf (Elt Ideal) ℓ) (ρ : Dev nD → PrngReg) (c : Dev nD)

/-- The reference's matrix of tokens. -/
def tokens : FVec Ideal S32768x1024 .f32 :=
  shapeCast S32768x1024 (m ((c : Thread nD τ).loc main_arg0) : S4x8192x1024.Idx → EReal) shapeCasts_S4x8192x1024_S32768x1024

/-- The reference's matrix of gate weights. -/
def weights : FVec Ideal S64x1024 .f32 := m ((c : Thread nD τ).loc main_arg1)

/-- The reference's second result is its normalised best scores. -/
theorem out1_eq : Value.res_main_v19 m c = normalised (best (scores (tokens m c) (weights m c))).1 := by
  unfold Value.res_main_v19 normalised best scores expos tops logits tokens weights
  rfl

/-- The reference's run: both results by name, the arguments unchanged. -/
theorem run : θ_run defs (onTc (τ := τ) (main (F := Ideal))) ⟨m, fun _ => 0, ρ⟩ fun r => ∀ c : Dev nD,
    r.2.mem ((c : Thread nD τ).loc main_indices) = (best (scores (tokens m c) (weights m c))).2
    ∧ r.2.mem ((c : Thread nD τ).loc main_v19) = normalised (best (scores (tokens m c) (weights m c))).1
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c =>
    ⟨(h c).1.trans (by unfold best scores expos tops logits tokens weights; rfl), (h c).2.1.trans (out1_eq m c), (h c).2.2⟩)
    (Value.run m ρ)

/-- The reference's run leaves every counter at zero and the arguments unchanged. -/
theorem quiet : θ_run defs (onTc (τ := τ) (main (F := Ideal))) ⟨m, fun _ => 0, ρ⟩ fun r => (∀ c : Dev nD,
    r.2.mem ((c : Thread nD τ).loc main_arg0) = m ((c : Thread nD τ).loc main_arg0)
    ∧ r.2.mem ((c : Thread nD τ).loc main_arg1) = m ((c : Thread nD τ).loc main_arg1))
    ∧ r.2.sem = fun _ => 0 :=
  (θ_run defs _ _).mono (fun r h => ⟨fun c => (h c).2.2, sem_eq_zero_of_no_sems (by decide) r.2⟩) (run m ρ)

end Cert.Reference

end
-- ==== Proof.lean ====
/-
  The proof of `Cert.Claim`: the kernel and the reference run to the end and leave their arguments unchanged, and for
  features and gate weights that are all finite they give the same experts and the same gates.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Finite
public import proofs.«01_k».proof.Proof.ReferenceRun
public import Idealize.ShloMosaic.Adequacy
public import Idealize.ShloMosaic.Init

@[expose] public section

noncomputable section

namespace Cert.Proof

open Idealize.ShloMosaic hiding ix0 ix1 ix2
open Idealize.SL.Sem Idealize.ShloMosaic.TcCoe

/-- Under the precondition the kernel and the reference end with the routed experts and their gates. -/
theorem algebraic : Cert.algebraic_KernelIdeal_ReferenceIdeal_pre_finite_inputs := by
  intro m ρ m' ρ' hpre hsame
  refine ⟨fun c => Router.experts (Router.tokens m c) (Router.weights m c),
    fun c => Router.gates (Router.tokens m c) (Router.weights m c), Router.run m ρ, ?_⟩
  refine (θ_run Cert.ReferenceIdeal.defs _ _).mono (fun r h c => ?_) (Reference.run m' ρ')
  have hX : Reference.tokens m' c = Router.tokens m c := by
    unfold Reference.tokens Router.tokens
    rw [(hsame c).1]
  have hW : Reference.weights m' c = Router.weights m c := (hsame c).2
  have hs := Finite.tokenScores_ne_bot m hpre c
  refine ⟨(h c).1.trans ?_, (h c).2.1.trans ?_, (h c).2.2⟩
  · rw [hX, hW, Reference.experts_eq _ _ hs]
  · rw [hX, hW, Reference.gates_eq _ _ hs]

/-- Every claim of the certificate: the frames, the idealisation and the equality of both results. -/
theorem claim : Cert.Claim :=
  ⟨Cert.Kernel.Gen.facts, Cert.KernelIdeal.Gen.facts, Cert.ReferenceIdeal.Gen.facts, Cert.Finite.facts,
    fun m ρ _ => Cert.Kernel.Gen.frame m ρ,
    fun m ρ _ => Cert.KernelIdeal.Gen.frame m ρ,
    fun m ρ _ => Cert.KernelIdeal.Gen.frame m ρ,
    fun m ρ _ => Reference.quiet m ρ,
    fun m ρ _ => Reference.quiet m ρ,
    trivial,
    algebraic⟩

end Cert.Proof

end
